-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S100000x256 : Shape := ⟨2, ![100000, 256]⟩
abbrev S100000 : Shape := ⟨1, ![100000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S128x1 : S_.BroadcastsInDim S128x1 (![] : Fin 0 → Fin S128x1.rank)
  reducesTo_S128x1_S_d0_1 : S128x1.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S100000x256 .f32) (main_arg1 : IVec S100000 32) (main_arg2 : FVec F S256x128 .f32) (main_arg3 : FVec F S128 .f32) (main_arg4 : FVec F S128x1 .f32) (main_arg5 : FVec F S1 .f32) : IVec S_ 1 :=
  let main_v0 : FVec F S128x1 .f32 := Host.absf main_arg4
  let main_cst : FVec F S_ .f32 := constant S_ .f32 0x7F800000#32
  let main_v1 : FVec F S128x1 .f32 := broadcastInDim S128x1 ![] bcast_S_S128x1 main_cst
  let main_v2 : IVec S128x1 1 := cmpf .olt main_v0 main_v1
  let main_c : IVec S_ 1 := constantI S_ 1 1#1
  let main_v3 : IVec S_ 1 := (fun x v => Host.reduce IntOp.andi x v reducesTo_S128x1_S_d0_1 h_S_) main_v2 main_c
  let main_v4 : FVec F S1 .f32 := Host.absf main_arg5
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S100000x256 : Shape := ⟨2, ![100000, 256]⟩
abbrev S100000 : Shape := ⟨1, ![100000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S10x1x10000 : Shape := ⟨3, ![10, 1, 10000]⟩
abbrev S1x128 : Shape := ⟨2, ![1, 128]⟩
abbrev S256x256 : Shape := ⟨2, ![256, 256]⟩
abbrev S10000x256 : Shape := ⟨2, ![10000, 256]⟩
abbrev S1x1x10000 : Shape := ⟨3, ![1, 1, 10000]⟩
abbrev S256x1 : Shape := ⟨2, ![256, 1]⟩
abbrev S1x10000 : Shape := ⟨2, ![1, 10000]⟩
abbrev S10000x128 : Shape := ⟨2, ![10000, 128]⟩
abbrev S1x1 : Shape := ⟨2, ![1, 1]⟩
abbrev S256x10000 : Shape := ⟨2, ![256, 10000]⟩
abbrev S10000x8 : Shape := ⟨2, ![10000, 8]⟩
abbrev S256x8 : Shape := ⟨2, ![256, 8]⟩

abbrev nBuf : Space → Nat
  | .hbm => 13
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .bf16⟩
  | .hbm, ⟨7, _⟩ => ⟨S10x1x10000, .bf16⟩
  | .hbm, ⟨8, _⟩ => ⟨S256x128, .bf16⟩
  | .hbm, ⟨9, _⟩ => ⟨S1x128, .f32⟩
  | .hbm, ⟨10, _⟩ => ⟨S1x128, .f32⟩
  | .hbm, ⟨11, _⟩ => ⟨S1x128, .bf16⟩
  | .hbm, ⟨12, _⟩ => ⟨S256x256, .f32⟩
  | .local _ .vmem, ⟨0, _⟩ => ⟨S10000x256, .f32⟩
  | .local _ .vmem, ⟨1, _⟩ => ⟨S10000x256, .f32⟩
  | .local _ .vmem, ⟨2, _⟩ => ⟨S1x1x10000, .bf16⟩
  | .local _ .vmem, ⟨3, _⟩ => ⟨S1x1x10000, .bf16⟩
  | .local _ .vmem, ⟨4, _⟩ => ⟨S256x128, .bf16⟩
  | .local _ .vmem, ⟨5, _⟩ => ⟨S1x128, .f32⟩
  | .local _ .vmem, ⟨6, _⟩ => ⟨S1x128, .bf16⟩
  | .local _ .vmem, ⟨7, _⟩ => ⟨S256x256, .f32⟩
  | .local _ .vmem, ⟨8, _⟩ => ⟨S256x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x256 : Shape := ⟨2, ![100000, 256]⟩
abbrev S100000 : Shape := ⟨1, ![100000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S100000x128 : Shape := ⟨2, ![100000, 128]⟩
abbrev S1x128 : Shape := ⟨2, ![1, 128]⟩
abbrev S100000x1 : Shape := ⟨2, ![100000, 1]⟩
abbrev S1x1 : Shape := ⟨2, ![1, 1]⟩
abbrev S1x100000 : Shape := ⟨2, ![1, 100000]⟩
abbrev S256 : Shape := ⟨1, ![256]⟩
abbrev S256x1 : Shape := ⟨2, ![256, 1]⟩
abbrev S256x100000 : Shape := ⟨2, ![256, 100000]⟩
abbrev S_ : Shape := ⟨0, ![]⟩
abbrev S256x256 : Shape := ⟨2, ![256, 256]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S100000x128, .f32⟩
  | .hbm, ⟨11, _⟩ => ⟨S100000x1, .f32⟩
  | .hbm, ⟨12, _⟩ => ⟨S1x1, .f32⟩
  | .hbm, ⟨13, _⟩ => ⟨S100000x1, .f32⟩
  | .hbm, ⟨14, _⟩ => ⟨S100000x1, .f32⟩
  | .hbm, ⟨15, _⟩ => ⟨S100000, .f32⟩
  | .hbm, ⟨16, _⟩ => ⟨S1x100000, .i32⟩
  | .hbm, ⟨17, _⟩ => ⟨S256, .i32⟩
  | .hbm, ⟨18, _⟩ => ⟨S256x1, .i32⟩
  | .hbm, ⟨19, _⟩ => ⟨S256x100000, .i32⟩
  | .hbm, ⟨20, _⟩ => ⟨S256x100000, .i32⟩
  | .hbm, ⟨21, _⟩ => ⟨S256x100000, .i1⟩
  | .hbm, ⟨22, _⟩ => ⟨S1x100000, .f32⟩
  | .hbm, ⟨23, _⟩ => ⟨S_, .f32⟩
  | .hbm, ⟨24, _⟩ => ⟨S_, .f32⟩
  | .hbm, ⟨25, _⟩ => ⟨S256x100000, .f32⟩
  | .hbm, ⟨26, _⟩ => ⟨S256x100000, .f32⟩
  | .hbm, ⟨27, _⟩ => ⟨S256x100000, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .i1⟩
  | .hbm, ⟨34, _⟩ => ⟨S_, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S_, .i32⟩
  | .hbm, ⟨39, _⟩ => ⟨S100000, .i32⟩
  | .hbm, ⟨40, _⟩ => ⟨S100000, .i1⟩
  | .hbm, ⟨41, _⟩ => ⟨S_, .i32⟩
  | .hbm, ⟨42, _⟩ => ⟨S100000, .i32⟩
  | .hbm, ⟨43, _⟩ => ⟨S100000, .i32⟩
  | .hbm, ⟨44, _⟩ => ⟨S100000, .i32⟩
  | .hbm, ⟨45, _⟩ => ⟨S100000x1, .i32⟩
  | .hbm, ⟨46, _⟩ => ⟨S100000, .f32⟩
  | .hbm, ⟨47, _⟩ => ⟨S100000, .f32⟩
  | .hbm, ⟨48, _⟩ => ⟨S100000, .f32⟩
  | .hbm, ⟨49, _⟩ => ⟨S_, .f32⟩
  | .hbm, ⟨50, _⟩ => ⟨S256, .f32⟩
  | .hbm, ⟨51, _⟩ => ⟨S100000x1, .i32⟩
  | .hbm, ⟨52, _⟩ => ⟨S256, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S256x256, .f32⟩
  | .hbm, ⟨68, _⟩ => ⟨S100000x1, .i32⟩
  | .hbm, ⟨69, _⟩ => ⟨S256x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.Step.lean ====
/-
  What one grid point of the pooling kernel leaves behind, in its three cases: the running weighted sum of the rows and
  the running sum of the weights, started from zero at the first point, and divided one by the other at the last.
-/
module

public import proofs.«01_k».proof.Proof.Gen.KernelIdeal.Value

@[expose] public section

set_option maxRecDepth 16384

noncomputable section

namespace Cert.Pool.Kern

open Cert.KernelIdeal Cert.KernelIdeal.Gen Idealize.ShloMosaic Idealize.ShloMosaic.TcCoe Idealize.SL.Sem

variable {F : FTy → Type} [FloatOps F]

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

/-- The weights one block of rows gives the 256 groups. -/
def wts (x0 : Vec F S10000x256 .f32) (x1 : Vec F S1x1x10000 .bf16) (x2 : Vec F S256x128 .bf16) (x3 : Vec F S1x128 .f32)
    (x4 : Vec F S1x128 .bf16) : FVec F S256x10000 .bf16 := k0_pay7 x0 x1 x2 x3 x4 x4

section
variable (c : Dev nD) (i : grid0.Coords) (a1 : Memref sig .tc .vmem S10000x256 .f32) (h1 : a1.IsWhole)
  (a2 : Memref sig .tc .vmem S1x1x10000 .bf16) (h2 : a2.IsWhole) (a3 : Memref sig .tc .vmem S256x128 .bf16) (h3 : a3.IsWhole)
  (a4 : Memref sig .tc .vmem S1x128 .f32) (h4 : a4.IsWhole) (a5 : Memref sig .tc .vmem S1x128 .bf16) (h5 : a5.IsWhole)
  (a6 : Memref sig .tc .vmem S256x256 .f32) (h6 : a6.IsWhole) (a7 : Memref sig .tc .vmem S256x1 .f32) (h7 : a7.IsWhole)
  (x0 : Vec F S10000x256 .f32) (x1 : Vec F S1x1x10000 .bf16) (x2 : Vec F S256x128 .bf16) (x3 : Vec F S1x128 .f32)
  (x4 : Vec F S1x128 .bf16) (xo : Vec F S256x256 .f32) (xs : Vec F S256x1 .f32)

/-- A middle point adds its block's weighted rows to the running sum. -/
theorem out_B (hc0 : ¬cond0_0 i) (hc1 : ¬cond0_1 i) :
    out0_B_5 c i a1 h1 a2 h2 a3 h3 a4 h4 a5 h5 a6 h6 a7 h7 hc0 hc1 x0 x1 x2 x3 x4 xo xs
      = k0_pay1 (k0_pay6 x0) (wts x0 x1 x2 x3 x4) xo := by
  unfold out0_B_5 wts
  rw [View.read_writes_eq_canon _ _ _ (cover0_B_5 c i a1 h1 a2 h2 a3 h3 a4 h4 a5 h5 a6 h6 a7 h7 hc0 hc1 x0 x1 x2 x3 x4 xo xs)]
  unfold kernelRun0_B
  dsimp only
  sl_unfold_words
  rw [View.canon_unit_zero hz2]
  simp only [View.readAt_eq_ld, h1.read_unread, h2.read_unread, h3.read_unread, h4.read_unread, h5.read_unread, h6.read_unread,
    View.ld_unit_zero (S := S10000x256) hz2, View.ld_unit_zero (S := S1x1x10000) hz3, View.ld_unit_zero (S := S256x128) hz2,
    View.ld_unit_zero (S := S1x128) hz2, View.ld_unit_zero (S := S256x256) hz2]

/-- A middle point adds its block's weights to the running sum of weights. -/
theorem sout_B (hc0 : ¬cond0_0 i) (hc1 : ¬cond0_1 i) :
    sout0_B_0 c i a1 h1 a2 h2 a3 h3 a4 h4 a5 h5 a6 h6 a7 h7 hc0 hc1 x0 x1 x2 x3 x4 xo xs
      = k0_pay2 (wts x0 x1 x2 x3 x4) xs := by
  unfold sout0_B_0 wts
  rw [View.read_writes_eq_canon _ _ _ (scover0_B_0 c i a1 h1 a2 h2 a3 h3 a4 h4 a5 h5 a6 h6 a7 h7 hc0 hc1 x0 x1 x2 x3 x4 xo xs)]
  unfold kernelRun0_B
  dsimp only
  sl_unfold_words
  rw [View.canon_unit_zero hz2]
  simp only [View.readAt_eq_ld, h1.read_unread, h2.read_unread, h3.read_unread, h4.read_unread, h5.read_unread, h7.read_unread,
    View.ld_unit_zero (S := S10000x256) hz2, View.ld_unit_zero (S := S1x1x10000) hz3, View.ld_unit_zero (S := S256x128) hz2,
    View.ld_unit_zero (S := S1x128) hz2, View.ld_unit_zero (S := S256x1) hz2]

/-- The first point adds its block's weighted rows to zero. -/
theorem out_A (hc0 : cond0_0 i) (hc1 : ¬cond0_1 i) :
    out0_A_5 c i a1 h1 a2 h2 a3 h3 a4 h4 a5 h5 a6 h6 a7 h7 hc0 hc1 x0 x1 x2 x3 x4
      = k0_pay1 (k0_pay6 x0) (wts x0 x1 x2 x3 x4) k0_pay5 := by
  unfold out0_A_5 wts
  rw [View.read_writes_eq_canon _ _ _ (cover0_A_5 c i a1 h1 a2 h2 a3 h3 a4 h4 a5 h5 a6 h6 a7 h7 hc0 hc1 x0 x1 x2 x3 x4)]
  unfold kernelRun0_A
  dsimp only
  sl_unfold_words
  rw [View.canon_cons_unit_zero (S := S256x256) hz2, View.readCov_unit_zero (S := S256x256) _ hz2]
  simp only [View.readAt_eq_ld, h1.read_unread, h2.read_unread, h3.read_unread, h4.read_unread, h5.read_unread, h6.read_unread,
    View.ld_unit_zero (S := S10000x256) hz2, View.ld_unit_zero (S := S1x1x10000) hz3, View.ld_unit_zero (S := S256x128) hz2,
    View.ld_unit_zero (S := S1x128) hz2, View.ld_unit_zero (S := S256x256) hz2]

/-- The first point adds its block's weights to zero. -/
theorem sout_A (hc0 : cond0_0 i) (hc1 : ¬cond0_1 i) :
    sout0_A_0 c i a1 h1 a2 h2 a3 h3 a4 h4 a5 h5 a6 h6 a7 h7 hc0 hc1 x0 x1 x2 x3 x4
      = k0_pay2 (wts x0 x1 x2 x3 x4) k0_pay4 := by
  unfold sout0_A_0 wts
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S256x1) hz2, View.readCov_unit_zero (S := S256x1) _ hz2]
  simp only [View.readAt_eq_ld, h1.read_unread, h2.read_unread, h3.read_unread, h4.read_unread, h5.read_unread, h7.read_unread,
    View.ld_unit_zero (S := S10000x256) hz2, View.ld_unit_zero (S := S1x1x10000) hz3, View.ld_unit_zero (S := S256x128) hz2,
    View.ld_unit_zero (S := S1x128) hz2, View.ld_unit_zero (S := S256x1) hz2]

/-- The last point adds its block like a middle one, then divides the weighted sum by the sum of the weights. -/
theorem out_C (hc0 : ¬cond0_0 i) (hc1 : cond0_1 i) :
    out0_C_5 c i a1 h1 a2 h2 a3 h3 a4 h4 a5 h5 a6 h6 a7 h7 hc0 hc1 x0 x1 x2 x3 x4 xo xs
      = k0_pay3 (k0_pay2 (wts x0 x1 x2 x3 x4) xs) (k0_pay1 (k0_pay6 x0) (wts x0 x1 x2 x3 x4) xo) := by
  unfold out0_C_5 wts
  rw [View.read_writes_eq_canon _ _ _ (cover0_C_5 c i a1 h1 a2 h2 a3 h3 a4 h4 a5 h5 a6 h6 a7 h7 hc0 hc1 x0 x1 x2 x3 x4 xo xs)]
  unfold kernelRun0_C
  dsimp only
  sl_unfold_words
  rw [View.canon_cons_unit_zero (S := S256x256) hz2, View.readCov_unit_zero (S := S256x256) _ hz2,
    View.readCov_unit_zero (S := S256x1) _ hz2]
  simp only [View.readAt_eq_ld, h1.read_unread, h2.read_unread, h3.read_unread, h4.read_unread, h5.read_unread, h6.read_unread,
    h7.read_unread,
    View.ld_unit_zero (S := S10000x256) hz2, View.ld_unit_zero (S := S1x1x10000) hz3, View.ld_unit_zero (S := S256x128) hz2,
    View.ld_unit_zero (S := S1x128) hz2, View.ld_unit_zero (S := S256x256) hz2, View.ld_unit_zero (S := S256x1) hz2]

end

end Cert.Pool.Kern

end
-- ==== Proof.Block.lean ====
/-
  The pooling kernel's arithmetic on one block of 10000 rows, read at one element over the extended reals.
-/
module

public import proofs.«01_k».proof.Proof.Step
public import Idealize.ShloMosaic.Lib.Pointwise
public import Idealize.ShloMosaic.PureOps.Ideal

@[expose] public section

set_option maxRecDepth 16384

noncomputable section

namespace Cert.Pool.Kern

open Cert.KernelIdeal Cert.KernelIdeal.Gen Idealize.ShloMosaic

/-- The running sum of weights starts at zero. -/
theorem pay4_at (r : Fin 256) (l : Fin 1) : (k0_pay4 : FVec Ideal S256x1 .f32) (ix2 r l) = 0 := by
  pointwise [k0_pay4]

/-- The running sum of rows starts at zero. -/
theorem pay5_at (r l : Fin 256) : (k0_pay5 : FVec Ideal S256x256 .f32) (ix2 r l) = 0 := by
  pointwise [k0_pay5]

/-- One block adds to group `g`'s running sum its rows times their weights. -/
theorem pay1_at (v4 : FVec Ideal S10000x256 .bf16) (w : FVec Ideal S256x10000 .bf16) (a : FVec Ideal S256x256 .f32) (g l : Fin 256) :
    k0_pay1 (k0_pay6 v4) w a (ix2 g l) = a (ix2 g l) + ∑ r : Fin 10000, w (ix2 g r) * v4 (ix2 r l) := by
  pointwise [k0_pay1, k0_pay6]

/-- One block adds to group `g`'s running sum of weights its weights. -/
theorem pay2_at (w : FVec Ideal S256x10000 .bf16) (a : FVec Ideal S256x1 .f32) (g : Fin 256) :
    k0_pay2 w a (ix2 g 0) = a (ix2 g 0) + ∑ r : Fin 10000, w (ix2 g r) := by
  pointwise [k0_pay2]

/-- The last division: the weighted sum over the sum of weights where that is positive, zero elsewhere. -/
theorem pay3_at (s : FVec Ideal S256x1 .f32) (a : FVec Ideal S256x256 .f32) (g l : Fin 256) :
    k0_pay3 (F := Ideal) s a (ix2 g l) = if 0 < s (ix2 g 0) then Ideal.div (a (ix2 g l)) (s (ix2 g 0)) else 0 := by
  pointwise [k0_pay3]

/-- Row `r` of a block has, for the group numbered `g`, the exponential of its logit less the bound if its group number is `g`, and
    zero otherwise; the bound is the sum of the output weights' absolute values. -/
theorem wts_at (x0 : FVec Ideal S10000x256 .f32) (x1 : FVec Ideal S1x1x10000 .bf16) (x2 : FVec Ideal S256x128 .bf16)
    (x3 : FVec Ideal S1x128 .f32) (x4 : FVec Ideal S1x128 .bf16) (g : Fin 256) (r : Fin 10000) :
    wts (F := Ideal) x0 x1 x2 x3 x4 (ix2 g r)
      = if x1 (ix3 0 0 r) = ((g.val : ℝ) : EReal) then
          Ideal.exp ((∑ k : Fin 128, x4 (ix2 0 k) * Ideal.tanh ((∑ d : Fin 256, x0 (ix2 r d) * x2 (ix2 d k)) + x3 (ix2 0 k)))
            - ∑ k : Fin 128, max (x4 (ix2 0 k)) (-x4 (ix2 0 k)))
        else 0 := by
  pointwise [wts, k0_pay7, k0_pay6]
  have e : (FloatOps.sitofp FTy.bf16 (BitVec.ofNat 32 g.val) : Ideal .bf16) = ((g.val : ℝ) : EReal) := by
    show (((BitVec.ofNat 32 g.val).toInt : ℝ) : EReal) = _
    rw [show (BitVec.ofNat 32 g.val).toInt = (g.val : ℤ) by
      have := g.isLt
      rw [BitVec.toInt_eq_toNat_cond, BitVec.toNat_ofNat, Nat.mod_eq_of_lt (by omega), if_pos (by omega)]]
    simp
  rw [e]
  rfl

end Cert.Pool.Kern

end
-- ==== Proof.Rows.lean ====
/-
  What the pooling kernel's windows show the body at each grid point, in terms of the arrays it was called with: block `t` holds rows
  `10000 t … 10000 t + 9999` of the features and of the group numbers, and the whole of each weight array.
-/
module

public import proofs.«01_k».proof.Proof.Block
public import Idealize.ShloMosaic.Lib.StableHlo.Run

@[expose] public section

set_option maxRecDepth 16384

noncomputable section

namespace Cert.Pool.Kern

open Cert.KernelIdeal Cert.KernelIdeal.Gen Idealize.ShloMosaic Idealize.ShloMosaic.TcCoe Idealize.SL.Sem

/-- A vector cut in `A` rows of `B`, each in a block of its own, read at row `a` and column `b`. -/
theorem cut_at {α : Type} {A B N : ℕ} (x : (⟨1, ![N]⟩ : Shape).Idx → α) (h : (⟨1, ![N]⟩ : Shape).ShapeCasts ⟨3, ![A, 1, B]⟩)
    (a : Fin A) (b : Fin B) (hn : a.val * B + b.val < N) :
    shapeCast ⟨3, ![A, 1, B]⟩ x h (ix3 a 0 b) = x (ix1 ⟨a.val * B + b.val, hn⟩) :=
  shapeCast_apply x h _ _ (by
    rw [Shape.rowMajor_val_one, Shape.rowMajor_val_three]
    show a.val * B + b.val = (a.val * 1 + 0) * B + b.val
    rw [Nat.mul_one, Nat.add_zero])

/-- Row `r` of block `t`, among all the rows. -/
def row (t : ℕ) (ht : t < 10) (r : Fin 10000) : Fin 100000 := ⟨t * 10000 + r.val, by have := r.isLt; omega⟩

variable (m : (ℓ : Loc nD τ sig) → Buf (Elt Ideal) ℓ) (c : Dev nD)

/-- The group numbers as the kernel's first window finds them: converted to floats and cut in ten rows. -/
theorem V_seg : V m c main_call0_v1 = shapeCast S10x1x10000 (sitofp (F := Ideal) .bf16 (m ((c : Thread nD τ).loc main_arg1) : IVec S100000 32)) shapeCasts_S100000_S10x1x10000 := by
  unfold V hostOps0
  after_results
  rfl

/-- The first layer's weights as the kernel's window finds them. -/
theorem V_W1 : V m c main_call0_v2 = truncf (F := Ideal) .bf16 (m ((c : Thread nD τ).loc main_arg2) : FVec Ideal S256x128 .f32) bitsLt_bf16_f32 := by
  unfold V hostOps0
  after_results
  rfl

/-- The first layer's bias as the kernel's window finds it: one row. -/
theorem V_b1 : V m c main_call0_v3 = shapeCast S1x128 (m ((c : Thread nD τ).loc main_arg3) : FVec Ideal S128 .f32) shapeCasts_S128_S1x128 := by
  unfold V hostOps0
  after_results
  rfl

/-- The output weights as the kernel's window finds them: one row. -/
theorem V_W2 : V m c main_call0_v5 = truncf (F := Ideal) .bf16 (shapeCast S1x128 (m ((c : Thread nD τ).loc main_arg4) : FVec Ideal S128x1 .f32) shapeCasts_S128x1_S1x128) bitsLt_bf16_f32 := by
  unfold V hostOps0
  after_results
  rfl

/-- Point `t` reads block `t` of the features. -/
theorem index_0 (t : Fin cfg0.N) : win0_0.index t 0 = t.val ∧ win0_0.index t 1 = 0 := by
  revert t; decide +kernel

/-- Point `t` reads block `t` of the group numbers. -/
theorem index_1 (t : Fin cfg0.N) : win0_1.index t 0 = t.val ∧ win0_1.index t 1 = 0 ∧ win0_1.index t 2 = 0 := by
  revert t; decide +kernel

/-- Every point reads the whole of the first layer's weights. -/
theorem index_2 (t : Fin cfg0.N) : win0_2.index t 0 = 0 ∧ win0_2.index t 1 = 0 := by
  revert t; decide +kernel
/-- Every point reads the whole of the first layer's bias. -/
theorem index_3 (t : Fin cfg0.N) : win0_3.index t 0 = 0 ∧ win0_3.index t 1 = 0 := by
  revert t; decide +kernel
/-- Every point reads the whole of the output weights. -/
theorem index_4 (t : Fin cfg0.N) : win0_4.index t 0 = 0 ∧ win0_4.index t 1 = 0 := by
  revert t; decide +kernel

/-- At point `t` the features' window holds rows `10000 t + r`. -/
theorem iblk0_at (t : Fin cfg0.N) (ht : t.val < 10) (r : Fin 10000) (l : Fin 256) :
    (iblk m c 0 t : Vec Ideal S10000x256 .f32) (ix2 r l) = (m ((c : Thread nD τ).loc main_arg0) : FVec Ideal S100000x256 .f32) (ix2 (row t.val ht r) l) := by
  unfold iblk
  rw [View.read_apply]
  show V m c main_arg0 _ = _
  rw [V_main_arg0]
  congr 1
  funext a
  apply Fin.ext
  match a with
  | ⟨0, _⟩ => show win0_0.index t 0 * 10000 + 1 * r.val = t.val * 10000 + r.val; rw [(index_0 t).1]; omega
  | ⟨1, _⟩ => show win0_0.index t 1 * 256 + 1 * l.val = l.val; rw [(index_0 t).2]; omega

/-- At point `t` the group numbers' window holds those of rows `10000 t + r`, as numbers. -/
theorem iblk1_at (t : Fin cfg0.N) (ht : t.val < 10) (r : Fin 10000) :
    (iblk m c 1 t : Vec Ideal S1x1x10000 .bf16) (ix3 0 0 r) = ((((m ((c : Thread nD τ).loc main_arg1) : IVec S100000 32) (ix1 (row t.val ht r))).toInt : ℝ) : EReal) := by
  unfold iblk
  rw [View.read_apply]
  show V m c main_call0_v1 _ = _
  have e : ((cfg0.win 1).blk t).view.emb (ix3 (0 : Fin 1) (0 : Fin 1) r) = ix3 (⟨t.val, ht⟩ : Fin 10) (0 : Fin 1) r := by
    funext a
    apply Fin.ext
    match a with
    | ⟨0, _⟩ => show win0_1.index t 0 * 1 + 1 * 0 = t.val; rw [(index_1 t).1]; omega
    | ⟨1, _⟩ => show win0_1.index t 1 * 1 + 1 * 0 = 0; rw [(index_1 t).2.1]
    | ⟨2, _⟩ => show win0_1.index t 2 * 10000 + 1 * r.val = r.val; rw [(index_1 t).2.2]; omega
  rw [V_seg]
  refine (congrArg _ e).trans ?_
  exact cut_at (sitofp (F := Ideal) .bf16 (m ((c : Thread nD τ).loc main_arg1) : IVec S100000 32)) _ ⟨t.val, ht⟩ r _

/-- At every point the third window holds the first layer's weights. -/
theorem iblk2_at (t : Fin cfg0.N) (d : Fin 256) (k : Fin 128) :
    (iblk m c 2 t : Vec Ideal S256x128 .bf16) (ix2 d k) = (m ((c : Thread nD τ).loc main_arg2) : FVec Ideal S256x128 .f32) (ix2 d k) := by
  unfold iblk
  rw [View.read_apply]
  show V m c main_call0_v2 _ = _
  have e : ((cfg0.win 2).blk t).view.emb (ix2 d k) = ix2 d k := by
    funext a
    apply Fin.ext
    match a with
    | ⟨0, _⟩ => show win0_2.index t 0 * 256 + 1 * d.val = d.val; rw [(index_2 t).1]; omega
    | ⟨1, _⟩ => show win0_2.index t 1 * 128 + 1 * k.val = k.val; rw [(index_2 t).2]; omega
  rw [V_W1]
  refine (congrArg _ e).trans ?_
  pointwise

/-- At every point the fourth window holds the first layer's bias. -/
theorem iblk3_at (t : Fin cfg0.N) (k : Fin 128) :
    (iblk m c 3 t : Vec Ideal S1x128 .f32) (ix2 0 k) = (m ((c : Thread nD τ).loc main_arg3) : FVec Ideal S128 .f32) (ix1 k) := by
  unfold iblk
  rw [View.read_apply]
  show V m c main_call0_v3 _ = _
  have e : ((cfg0.win 3).blk t).view.emb (ix2 (0 : Fin 1) k) = ix2 (0 : Fin 1) k := by
    funext a
    apply Fin.ext
    match a with
    | ⟨0, _⟩ => show win0_3.index t 0 * 1 + 1 * 0 = 0; rw [(index_3 t).1]
    | ⟨1, _⟩ => show win0_3.index t 1 * 128 + 1 * k.val = k.val; rw [(index_3 t).2]; omega
  rw [V_b1]
  refine (congrArg _ e).trans ?_
  pointwise

/-- At every point the fifth window holds the output weights. -/
theorem iblk4_at (t : Fin cfg0.N) (k : Fin 128) :
    (iblk m c 4 t : Vec Ideal S1x128 .bf16) (ix2 0 k) = (m ((c : Thread nD τ).loc main_arg4) : FVec Ideal S128x1 .f32) (ix2 k 0) := by
  unfold iblk
  rw [View.read_apply]
  show V m c main_call0_v5 _ = _
  have e : ((cfg0.win 4).blk t).view.emb (ix2 (0 : Fin 1) k) = ix2 (0 : Fin 1) k := by
    funext a
    apply Fin.ext
    match a with
    | ⟨0, _⟩ => show win0_4.index t 0 * 1 + 1 * 0 = 0; rw [(index_4 t).1]
    | ⟨1, _⟩ => show win0_4.index t 1 * 128 + 1 * k.val = k.val; rw [(index_4 t).2]; omega
  rw [V_W2]
  refine (congrArg _ e).trans ?_
  pointwise

end Cert.Pool.Kern

end
-- ==== Proof.Pool.lean ====
/-
  The mathematics of attention pooling over the extended reals, with no program in it: a tanh is a real number, so a
  gate logit with real output weights is one, and the softmax-weighted sum of a group of rows is the same whatever real
  number the logits are shifted by. The rows themselves may be any extended reals.
-/
module

public import Idealize.ShloMosaic.PureOps.Ideal
public import Mathlib.Data.EReal.Operations

@[expose] public section

noncomputable section

namespace Cert.Pool

open Idealize.ShloMosaic

/-- The hyperbolic tangent of an extended real is a real number. -/
theorem tanh_real (x : EReal) : ∃ r : ℝ, Ideal.tanh x = (r : EReal) := by
  induction x using EReal.rec with
  | bot => exact ⟨-1, by rw [Ideal.tanh_bot]; rfl⟩
  | coe r => exact ⟨Real.tanh r, rfl⟩
  | top => exact ⟨1, by rw [Ideal.tanh_top]; rfl⟩

/-- A finite sum of real numbers, taken in the extended reals, is their real sum. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- A finite sum of extended reals each of which is a real number is a real number. -/
theorem sum_real {ι : Type} (S : Finset ι) (f : ι → EReal) (hf : ∀ i, ∃ r : ℝ, f i = (r : EReal)) :
    ∃ r : ℝ, ∑ i ∈ S, f i = (r : EReal) := by
  choose g hg using hf
  exact ⟨∑ i ∈ S, g i, by rw [← coe_sum]; exact Finset.sum_congr rfl fun i _ => hg i⟩

/-- A nonnegative real factor moves into a sum of extended reals. -/
theorem sum_mul_coe {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih,
      EReal.right_distrib_of_nonneg_of_ne_top (EReal.coe_nonneg.2 hc) (EReal.coe_ne_top c)]

/-- An extended real whose larger sign is below infinity is a real number. -/
theorem real_of_abs_lt {x : EReal} (h : max x (-x) < ⊤) : ∃ r : ℝ, x = (r : EReal) := by
  induction x using EReal.rec with
  | bot => simp at h
  | coe r => exact ⟨r, rfl⟩
  | top => simp at h

/-- SHIFT INVARIANCE: the sum of a group's rows weighted by `exp (l - b)` and divided once by the sum of the weights (zero for
    a group with no weight) is the sum of the rows each times its own quotient of `exp (l - c)` by the sum of those. -/
theorem shift {ι : Type} (S : Finset ι) (l : ι → ℝ) (x : ι → EReal) (b c : ℝ) :
    (if 0 < ∑ i ∈ S, ((Real.exp (l i - b) : ℝ) : EReal)
      then Ideal.div (∑ i ∈ S, ((Real.exp (l i - b) : ℝ) : EReal) * x i) (∑ i ∈ S, ((Real.exp (l i - b) : ℝ) : EReal))
      else 0)
    = ∑ i ∈ S, x i * Ideal.div ((Real.exp (l i - c) : ℝ) : EReal) (∑ j ∈ S, ((Real.exp (l j - c) : ℝ) : EReal)) := by
  rw [coe_sum, coe_sum]
  rcases S.eq_empty_or_nonempty with rfl | hS
  · simp
  have hs : 0 < ∑ i ∈ S, Real.exp (l i - b) := Finset.sum_pos (fun i _ => Real.exp_pos _) hS
  have ht : 0 < ∑ i ∈ S, Real.exp (l i - c) := Finset.sum_pos (fun i _ => Real.exp_pos _) hS
  have hst : ∑ i ∈ S, Real.exp (l i - c) = (∑ i ∈ S, Real.exp (l i - b)) * Real.exp (b - c) := by
    rw [Finset.sum_mul]
    refine Finset.sum_congr rfl fun i _ => ?_
    rw [← Real.exp_add]
    congr 1
    ring
  rw [if_pos (EReal.coe_pos.2 hs), Ideal.div_coe hs.ne', sum_mul_coe _ _ _ (one_div_pos.2 hs).le]
  refine Finset.sum_congr rfl fun i _ => ?_
  rw [Ideal.div_coe ht.ne', ← EReal.coe_mul, mul_comm _ (x i), mul_assoc, ← EReal.coe_mul]
  congr 2
  rw [hst, show l i - c = (l i - b) + (b - c) by ring, Real.exp_add]
  have := Real.exp_pos (b - c)
  field_simp

/-- The same with the group given by a test on the rows and the logits, their shift `B` on one side and `b2 - m` on the other
    extended reals known to be real numbers: on the left the weights of the rows outside the group are zero. -/
theorem pooled_eq {n : ℕ} (mem : Fin n → Prop) [DecidablePred mem] (L x : Fin n → EReal) (B b2 m : EReal)
    (hL : ∀ i, ∃ r : ℝ, L i = (r : EReal)) (hB : ∃ r : ℝ, B = (r : EReal)) (hb2 : ∃ r : ℝ, b2 = (r : EReal))
    (hm : ∃ r : ℝ, m = (r : EReal)) :
    (if 0 < ∑ i, (if mem i then Ideal.exp (L i - B) else 0)
      then Ideal.div (∑ i, (if mem i then Ideal.exp (L i - B) else 0) * x i) (∑ i, if mem i then Ideal.exp (L i - B) else 0)
      else 0)
    = ∑ i with mem i, x i * Ideal.div (Ideal.exp (L i + b2 - m)) (∑ j with mem j, Ideal.exp (L j + b2 - m)) := by
  choose l hl using hL
  obtain ⟨B, rfl⟩ := hB
  obtain ⟨b2, rfl⟩ := hb2
  obtain ⟨m, rfl⟩ := hm
  have e1 : ∀ i, Ideal.exp (L i - (B : EReal)) = ((Real.exp (l i - B) : ℝ) : EReal) := fun i => by
    rw [hl, ← EReal.coe_sub, Ideal.exp_coe]
  have e2 : ∀ i, Ideal.exp (L i + (b2 : EReal) - (m : EReal)) = ((Real.exp (l i - (m - b2)) : ℝ) : EReal) := fun i => by
    rw [hl, ← EReal.coe_add, ← EReal.coe_sub, Ideal.exp_coe, show l i + b2 - m = l i - (m - b2) by ring]
  simp only [e1, e2, ite_mul, zero_mul, ← Finset.sum_filter]
  exact shift _ l x B (m - b2)

end Cert.Pool

end
-- ==== Proof.Gate.lean ====
/-
  The gate of attention pooling as a function of its arrays over the extended reals: a row's logit, the bound on it, and
  the weight a row has in a group. With real output weights the logit and the bound are real numbers, whatever the
  features and the first layer's weights are.
-/
module

public import proofs.«01_k».proof.Proof.Pool

@[expose] public section

noncomputable section

namespace Cert.Pool

open Idealize.ShloMosaic

/-- A row's logit before the output bias: the output weights times the hyperbolic tangents of the first layer. -/
def logit {n e k : ℕ} (h : Fin n → Fin e → EReal) (W1 : Fin e → Fin k → EReal) (b1 W2 : Fin k → EReal) (i : Fin n) : EReal :=
  ∑ j : Fin k, W2 j * Ideal.tanh ((∑ d : Fin e, h i d * W1 d j) + b1 j)

/-- The sum of the output weights' absolute values. -/
def bound {k : ℕ} (W2 : Fin k → EReal) : EReal := ∑ j : Fin k, max (W2 j) (-W2 j)

/-- The weight a row of group number `s` and logit `L` has in group `g`, the logits shifted by `B`. -/
def weight (s : ℤ) (g : ℕ) (L B : EReal) : EReal := if s = (g : ℤ) then Ideal.exp (L - B) else 0

/-- With real output weights a logit is a real number. -/
theorem logit_real {n e k : ℕ} (h : Fin n → Fin e → EReal) (W1 : Fin e → Fin k → EReal) (b1 W2 : Fin k → EReal)
    (hW2 : ∀ j, ∃ r : ℝ, W2 j = (r : EReal)) (i : Fin n) : ∃ r : ℝ, logit h W1 b1 W2 i = (r : EReal) :=
  sum_real _ _ fun j => by
    obtain ⟨a, ha⟩ := hW2 j
    obtain ⟨b, hb⟩ := tanh_real ((∑ d : Fin e, h i d * W1 d j) + b1 j)
    exact ⟨a * b, by rw [ha, hb, EReal.coe_mul]⟩

/-- With real output weights the bound is a real number. -/
theorem bound_real {k : ℕ} (W2 : Fin k → EReal) (hW2 : ∀ j, ∃ r : ℝ, W2 j = (r : EReal)) : ∃ r : ℝ, bound W2 = (r : EReal) :=
  sum_real _ _ fun j => by
    obtain ⟨a, ha⟩ := hW2 j
    exact ⟨max a (-a), by rw [ha, ← EReal.coe_neg]; exact (EReal.coe_strictMono.monotone.map_max).symm⟩

/-- An integer taken as an extended real is the natural number `g` exactly when it is `g`. -/
theorem int_eq_nat (s : ℤ) (g : ℕ) : ((s : ℝ) : EReal) = ((g : ℝ) : EReal) ↔ s = (g : ℤ) := by
  rw [EReal.coe_eq_coe_iff]
  exact_mod_cast Iff.rfl

end Cert.Pool

end
-- ==== Proof.Fold.lean ====
/-
  The pooling kernel's result: after its ten grid points the array holds, for each group and feature, the sum over all rows of the row's
  weight in the group times its feature, divided by the sum of the weights where that is positive, and zero elsewhere.
-/
module

public import proofs.«01_k».proof.Proof.Rows
public import proofs.«01_k».proof.Proof.Gate

@[expose] public section

set_option maxRecDepth 16384

noncomputable section

namespace Cert.Pool.Kern

open Cert.KernelIdeal Cert.KernelIdeal.Gen Idealize.ShloMosaic Idealize.ShloMosaic.TcCoe Idealize.SL.Sem
open Cert.KernelIdeal.Value

variable (m : (ℓ : Loc nD τ sig) → Buf (Elt Ideal) ℓ) (c : Dev nD)

/-- The features. -/
def feat (i : Fin 100000) (l : Fin 256) : EReal := (m ((c : Thread nD τ).loc main_arg0) : FVec Ideal S100000x256 .f32) (ix2 i l)
/-- A row's group number. -/
def seg (i : Fin 100000) : ℤ := ((m ((c : Thread nD τ).loc main_arg1) : IVec S100000 32) (ix1 i)).toInt
/-- The first layer's weights. -/
def w1 (d : Fin 256) (k : Fin 128) : EReal := (m ((c : Thread nD τ).loc main_arg2) : FVec Ideal S256x128 .f32) (ix2 d k)
/-- The first layer's bias. -/
def bias (k : Fin 128) : EReal := (m ((c : Thread nD τ).loc main_arg3) : FVec Ideal S128 .f32) (ix1 k)
/-- The output weights. -/
def w2 (k : Fin 128) : EReal := (m ((c : Thread nD τ).loc main_arg4) : FVec Ideal S128x1 .f32) (ix2 k 0)
/-- A row's weight in a group, its logit shifted by the bound. -/
def wt (g : Fin 256) (i : Fin 100000) : EReal :=
  weight (seg m c i) g.val (logit (feat m c) (w1 m c) (bias m c) (w2 m c) i) (bound (w2 m c))

/-- The weights of the rows of block `t`. -/
def blockWts (t : Fin cfg0.N) : FVec Ideal S256x10000 .bf16 :=
  wts (iblk m c 0 t) (iblk m c 1 t) (iblk m c 2 t) (iblk m c 3 t) (iblk m c 4 t)

/-- The weight the body gives row `r` of block `t` is that row's weight. -/
theorem blockWts_at (t : Fin cfg0.N) (ht : t.val < 10) (g : Fin 256) (r : Fin 10000) :
    blockWts m c t (ix2 g r) = wt m c g (row t.val ht r) := by
  unfold blockWts
  rw [wts_at, iblk1_at m c t ht]
  simp only [iblk0_at m c t ht, iblk2_at, iblk3_at, iblk4_at]
  unfold wt weight
  exact if_congr (int_eq_nat _ _) rfl rfl

/-- What block `n` adds to the weighted sum. -/
def num (n : ℕ) (g l : Fin 256) : EReal :=
  if h : n < 10 then ∑ r : Fin 10000, wt m c g (row n h r) * feat m c (row n h r) l else 0
/-- What block `n` adds to the sum of weights. -/
def den (n : ℕ) (g : Fin 256) : EReal :=
  if h : n < 10 then ∑ r : Fin 10000, wt m c g (row n h r) else 0

/-- `num` at a block of the grid. -/
theorem num_of {n : ℕ} (h : n < 10) (g l : Fin 256) :
    num m c n g l = ∑ r : Fin 10000, wt m c g (row n h r) * feat m c (row n h r) l := by
  unfold num
  exact dif_pos h

/-- `den` at a block of the grid. -/
theorem den_of {n : ℕ} (h : n < 10) (g : Fin 256) : den m c n g = ∑ r : Fin 10000, wt m c g (row n h r) := by
  unfold den
  exact dif_pos h

/-- The blocks' parts of the weighted sum add up to the whole one. -/
theorem sum_num (g l : Fin 256) : ∑ s ∈ Finset.range 10, num m c s g l = ∑ i : Fin 100000, wt m c g i * feat m c i l := by
  rw [Finset.sum_range, Fin.sum_univ_tiles 10 10000 rfl]
  exact Finset.sum_congr rfl fun s _ => dif_pos s.isLt

/-- The blocks' parts of the sum of weights add up to the whole one. -/
theorem sum_den (g : Fin 256) : ∑ s ∈ Finset.range 10, den m c s g = ∑ i : Fin 100000, wt m c g i := by
  rw [Finset.sum_range, Fin.sum_univ_tiles 10 10000 rfl]
  exact Finset.sum_congr rfl fun s _ => dif_pos s.isLt

/-- One block added to the weighted sum. -/
theorem add_num (t : Fin cfg0.N) (ht : t.val < 10) (a : FVec Ideal S256x256 .f32) (g l : Fin 256) :
    k0_pay1 (k0_pay6 (iblk m c 0 t)) (blockWts m c t) a (ix2 g l) = a (ix2 g l) + num m c t.val g l := by
  have e : ∑ r : Fin 10000, blockWts m c t (ix2 g r) * (iblk m c 0 t : Vec Ideal S10000x256 .f32) (ix2 r l) = num m c t.val g l :=
    (Finset.sum_congr rfl fun r _ => congrArg₂ (· * ·) (blockWts_at m c t ht g r) (iblk0_at m c t ht r l)).trans (num_of m c ht g l).symm
  rw [← e]
  exact pay1_at (iblk m c 0 t) (blockWts m c t) a g l

/-- One block added to the sum of weights. -/
theorem add_den (t : Fin cfg0.N) (ht : t.val < 10) (a : FVec Ideal S256x1 .f32) (g : Fin 256) :
    k0_pay2 (blockWts m c t) a (ix2 g 0) = a (ix2 g 0) + den m c t.val g := by
  have e : ∑ r : Fin 10000, blockWts m c t (ix2 g r) = den m c t.val g :=
    (Finset.sum_congr rfl fun r _ => blockWts_at m c t ht g r).trans (den_of m c ht g).symm
  rw [← e]
  exact pay2_at (blockWts m c t) a g

/-- The running pair after point `n`. -/
abbrev acc (n : ℕ) (h : 0 + n < cfg0.N) : Vec Ideal S256x256 .f32 × Vec Ideal S256x1 .f32 :=
  Pipeline.accAt (fun n h => stAt0 m c n h junk0) (stAt0 m c) 0 n h

/-- Before the last point the running pair is the sums over the blocks so far. -/
theorem acc_eq : ∀ (n : ℕ) (h : 0 + n < cfg0.N), n < 9 → ∀ (g l : Fin 256),
    (acc m c n h).1 (ix2 g l) = ∑ s ∈ Finset.range (n + 1), num m c s g l
    ∧ (acc m c n h).2 (ix2 g 0) = ∑ s ∈ Finset.range (n + 1), den m c s g
  | 0, h, _, g, l => by
    have e : acc m c 0 h = _ := stAt0_A m c ⟨0, h⟩ junk0 (Nat.zero_mod _) (by show ¬0 % 10 = 9; decide)
    rw [e, out_A, sout_A, Finset.sum_range_one, Finset.sum_range_one]
    refine ⟨(add_num m c ⟨0, h⟩ (Nat.succ_pos 9) _ g l).trans ?_, (add_den m c ⟨0, h⟩ (Nat.succ_pos 9) _ g).trans ?_⟩
    · rw [pay5_at, zero_add]
    · rw [pay4_at, zero_add]
  | n + 1, h, hn, g, l => by
    obtain ⟨ih1, ih2⟩ := acc_eq n (Nat.lt_of_succ_lt h) (by omega) g l
    have hlt : n + 1 < cfg0.N := by omega
    have e : acc m c (n + 1) h = stAt0 m c (n + 1) hlt (acc m c n (Nat.lt_of_succ_lt h)) := by
      unfold acc
      rw [Pipeline.accAt_succ]
      congr 1
      omega
    rw [e, stAt0_B m c ⟨n + 1, hlt⟩ _ (by show ¬(n + 1) % 10 = 0; omega) (by show ¬(n + 1) % 10 = 9; omega), out_B, sout_B,
      Finset.sum_range_succ, Finset.sum_range_succ _ (n + 1), ← ih1, ← ih2]
    exact ⟨add_num m c ⟨n + 1, hlt⟩ (by show n + 1 < 10; omega) _ g l, add_den m c ⟨n + 1, hlt⟩ (by show n + 1 < 10; omega) _ g⟩

/-- The result is the last point's division of what the point before left with the last block added. -/
theorem last_step (h8 : 0 + 8 < cfg0.N) (h9 : 9 < cfg0.N) :
    (G5 m c : FVec Ideal S256x256 .f32)
      = k0_pay3 (k0_pay2 (blockWts m c ⟨9, h9⟩) (acc m c 8 h8).2)
          (k0_pay1 (k0_pay6 (iblk m c 0 ⟨9, h9⟩)) (blockWts m c ⟨9, h9⟩) (acc m c 8 h8).1) := by
  have e : acc m c 9 h9 = stAt0 m c 9 h9 (acc m c 8 h8) := by
    unfold acc
    exact Pipeline.accAt_succ _ _ 0 8 _
  rw [G5_last]
  show (acc m c 9 h9).1 = _
  rw [e, stAt0_C m c ⟨9, h9⟩ _ (by show ¬9 % 10 = 0; decide) (by show 9 % 10 = 9; decide), out_C]
  rfl

/-- THE KERNEL'S RESULT at group `g` and feature `l`. -/
theorem result_at (g l : Fin 256) :
    (G5 m c : FVec Ideal S256x256 .f32) (ix2 g l)
      = if 0 < ∑ i, wt m c g i then Ideal.div (∑ i, wt m c g i * feat m c i l) (∑ i, wt m c g i) else 0 := by
  have h8 : 0 + 8 < cfg0.N := lt_of_lt_of_eq (by decide) N_0.symm
  have h9 : 9 < cfg0.N := lt_of_lt_of_eq (by decide) N_0.symm
  obtain ⟨e1, e2⟩ := acc_eq m c 8 h8 (by decide) g l
  have a1 := add_num m c ⟨9, h9⟩ (by show 9 < 10; decide) (acc m c 8 h8).1 g l
  have a2 := add_den m c ⟨9, h9⟩ (by show 9 < 10; decide) (acc m c 8 h8).2 g
  have f1 := Finset.sum_range_succ (fun s => num m c s g l) 9
  have f2 := Finset.sum_range_succ (fun s => den m c s g) 9
  rw [sum_num m c g l] at f1
  rw [sum_den m c g] at f2
  have b1 := a1.trans ((congrArg (· + num m c 9 g l) e1).trans f1.symm)
  have b2 := a2.trans ((congrArg (· + den m c 9 g) e2).trans f2.symm)
  rw [last_step m c h8 h9, pay3_at, b1, b2]

end Cert.Pool.Kern

end
-- ==== Proof.Lands.lean ====
/-
  Where the reference's two segment sums put a row: its contribution goes to the group its number, read as a signed integer, names, at the
  row's own feature, and nowhere when there is no such group. So each segment sum is the sum over the rows of that group.
-/
module

public import proofs.«01_k».proof.Proof.Gen.ReferenceIdeal.Run
public import Idealize.ShloMosaic.Lib.Pointwise
public import Idealize.ShloMosaic.Lib.Routing.OpsPair
public import Idealize.ShloMosaic.Lib.Routing.OpsSet
public import Idealize.ShloMosaic.Lib.ValueIdx

@[expose] public section

set_option maxRecDepth 16384

noncomputable section

namespace Cert.Pool.Refn

open Cert.ReferenceIdeal Cert.ReferenceIdeal.Gen Idealize.ShloMosaic

/-- A row's weight lands in the group its number names. -/
theorem lands1 (idx : IVec S100000x1 32) (i : Fin 100000) (g : Fin 256) :
    scatter_S256_S100000x1_S100000_n_0_0_1.resultIdx? (ix1 i) idx = some (ix1 g) ↔ (idx (ix2 i 0)).toInt = (g.val : ℤ) := by
  have h1 : scatter_S256_S100000x1_S100000_n_0_0_1.start (ix1 i) idx 0 = (idx (ix2 i 0)).toInt := by
    unfold ScatterDims.start
    rw [dif_pos (by decide)]
    congr 2
    funext b
    apply Fin.ext
    match b with
    | ⟨0, _⟩ => rfl
    | ⟨1, _⟩ => rfl
  have h2 : scatter_S256_S100000x1_S100000_n_0_0_1.window (ix1 i) 0 = 0 := rfl
  refine (Routing.resultIdx?_ix1 _ _ _ _).trans ?_
  rw [h1, h2]
  simp

/-- A row's weighted feature lands in the group its number names, at its own feature. -/
theorem lands2 (idx : IVec S100000x1 32) (i : Fin 100000) (c : Fin 256) (g l : Fin 256) :
    scatter_S256x256_S100000x1_S100000x256_1_0_0_1.resultIdx? (ix2 i c) idx = some (ix2 g l)
      ↔ (idx (ix2 i 0)).toInt = (g.val : ℤ) ∧ c = l := by
  have h1 : scatter_S256x256_S100000x1_S100000x256_1_0_0_1.start (ix2 i c) idx 0 = (idx (ix2 i 0)).toInt := by
    unfold ScatterDims.start
    rw [dif_pos (by decide)]
    congr 2
    funext b
    apply Fin.ext
    match b with
    | ⟨0, _⟩ => rfl
    | ⟨1, _⟩ => rfl
  have h2 : scatter_S256x256_S100000x1_S100000x256_1_0_0_1.window (ix2 i c) 0 = 0 := rfl
  have h3 : scatter_S256x256_S100000x1_S100000x256_1_0_0_1.start (ix2 i c) idx 1 = 0 := rfl
  have h4 : scatter_S256x256_S100000x1_S100000x256_1_0_0_1.window (ix2 i c) 1 = c.val := rfl
  refine (Routing.resultIdx?_ix2 _ _ _ _ _).trans ?_
  rw [h1, h2, h3, h4]
  refine and_congr (by simp) ?_
  rw [Fin.ext_iff]
  omega

/-- A sum over a group's rows into a vector of groups. -/
theorem segsum1 (x : FVec Ideal S256 .f32) (idx : IVec S100000x1 32) (upd : FVec Ideal S100000 .f32) (g : Fin 256) :
    Host.scatterAdd scatter_S256_S100000x1_S100000_n_0_0_1 x idx upd (ix1 g)
      = x (ix1 g) + ∑ i : Fin 100000 with (idx (ix2 i 0)).toInt = (g.val : ℤ), upd (ix1 i) := by
  show Ideal.hostScatterAdd _ x idx upd (ix1 g) = _
  unfold Ideal.hostScatterAdd
  rw [Finset.sum_filter, Finset.sum_filter, sum_idx1]
  exact congrArg _ (Finset.sum_congr rfl fun i _ => if_congr (lands1 idx i g) rfl rfl)

/-- A sum over a group's rows into a matrix of groups by features. -/
theorem segsum2 (x : FVec Ideal S256x256 .f32) (idx : IVec S100000x1 32) (upd : FVec Ideal S100000x256 .f32) (g l : Fin 256) :
    Host.scatterAdd scatter_S256x256_S100000x1_S100000x256_1_0_0_1 x idx upd (ix2 g l)
      = x (ix2 g l) + ∑ i : Fin 100000 with (idx (ix2 i 0)).toInt = (g.val : ℤ), upd (ix2 i l) := by
  show Ideal.hostScatterAdd _ x idx upd (ix2 g l) = _
  unfold Ideal.hostScatterAdd
  rw [Finset.sum_filter, Finset.sum_filter, sum_idx2]
  refine congrArg _ (Finset.sum_congr rfl fun i _ => ?_)
  refine (Finset.sum_congr rfl fun c _ => if_congr (lands2 idx i c g l) rfl rfl).trans ?_
  by_cases hi : (idx (ix2 i 0)).toInt = (g.val : ℤ)
  · simp only [hi, true_and, if_true]
    exact (Finset.sum_ite_eq' Finset.univ l fun c => upd (ix2 i c)).trans (if_pos (Finset.mem_univ l))
  · simp only [hi, false_and, if_false, Finset.sum_const_zero]

end Cert.Pool.Refn

end
-- ==== Proof.Refn.lean ====
/-
  The reference's result, read at one element: for each group and feature the sum, over the rows whose number is that group's, of
  the row's feature times its softmax weight within the group, the logits shifted by some real number.
-/
module

public import proofs.«01_k».proof.Proof.Lands
public import proofs.«01_k».proof.Proof.Gate

@[expose] public section

set_option maxRecDepth 16384

noncomputable section

namespace Cert.Pool.Refn

open Cert.ReferenceIdeal Cert.ReferenceIdeal.Gen Idealize.ShloMosaic Idealize.ShloMosaic.TcCoe Idealize.SL.Sem

/-- A column read as a vector. -/
theorem column_at {α : Type} {N : ℕ} (x : (⟨2, ![N, 1]⟩ : Shape).Idx → α) (h : (⟨2, ![N, 1]⟩ : Shape).ShapeCasts ⟨1, ![N]⟩) (i : Fin N) :
    shapeCast ⟨1, ![N]⟩ x h (ix1 i) = x (ix2 i 0) :=
  shapeCast_apply x h _ _ (by
    rw [Shape.rowMajor_val_one, Shape.rowMajor_val_two]
    show i.val * 1 + 0 = i.val
    rw [Nat.mul_one, Nat.add_zero])

/-- The finite part of a vector is real at every group. -/
theorem finite_part_real (v : FVec Ideal S256 .f32) (g : Fin 256) :
    ∃ r : ℝ, select (cmpf .olt (Host.absf v) (broadcastInDim S256 ![] bcast_S_S256 (constant S_ .f32 0x7F800000#32))) v (broadcastInDim S256 ![] bcast_S_S256 (id (constant S_ .f32 0x00000000#32))) (ix1 g) = (r : EReal) := by
  have e : select (cmpf .olt (Host.absf v) (broadcastInDim S256 ![] bcast_S_S256 (constant S_ .f32 0x7F800000#32))) v (broadcastInDim S256 ![] bcast_S_S256 (id (constant S_ .f32 0x00000000#32))) (ix1 g)
      = if max (v (ix1 g)) (-(v (ix1 g))) < Ideal.ofBits .f32 0x7F800000#32 then v (ix1 g) else id (constant (F := Ideal) S_ .f32 0x00000000#32) ix0 := by
    pointwise
    rfl
  rw [e]
  have ht : Ideal.ofBits .f32 0x7F800000#32 = ⊤ := by simp [Ideal.ofBits, Ideal.ieee]
  have hz : id (constant (F := Ideal) S_ .f32 0x00000000#32) ix0 = 0 := Ideal.ofBits_zero_f32
  rw [ht, hz]
  split
  · next h => exact real_of_abs_lt h
  · exact ⟨0, rfl⟩

section
variable (a0 : FVec Ideal S100000x256 .f32) (a1 : IVec S100000 32) (a2 : FVec Ideal S256x128 .f32) (a3 : FVec Ideal S128 .f32)
  (a4 : FVec Ideal S128x1 .f32) (a5 : FVec Ideal S1 .f32)

/-- The logits. -/
def lg : FVec Ideal S100000 .f32 :=
  shapeCast _ (addf (Host.dotGeneral dot_S100000x128_S128x1_S100000x1_1_0_0_1_n_n none (Host.tanh (addf (Host.dotGeneral dot_S100000x256_S256x128_S100000x128_1_0_0_1_n_n none a0 a2) (broadcastInDim S100000x128 ![0, 1] bcast_S1x128_S100000x128_0_1 (broadcastInDim S1x128 ![1] bcast_S128_S1x128_1 a3)))) a4) (broadcastInDim S100000x1 ![0, 1] bcast_S1x1_S100000x1_0_1 (broadcastInDim S1x1 ![1] bcast_S1_S1x1_1 a5))) shapeCasts_S100000x1_S100000

/-- Each group's largest logit. -/
def mx : FVec Ideal S256 .f32 :=
  Host.reduce FloatOps.maximumf (select (cmpi .eq (broadcastInDim S256x100000 ![0, 1] bcast_S1x100000_S256x100000_0_1 (broadcastInDim S1x100000 ![1] bcast_S100000_S1x100000_1 a1)) (broadcastInDim S256x100000 ![0, 1] bcast_S256x1_S256x100000_0_1 (broadcastInDim S256x1 ![0] bcast_S256_S256x1_0 (iotaInDim S256 32 0)))) (broadcastInDim S256x100000 ![0, 1] bcast_S1x100000_S256x100000_0_1 (broadcastInDim S1x100000 ![1] bcast_S100000_S1x100000_1 (lg a0 a2 a3 a4 a5))) (broadcastInDim S256x100000 ![] bcast_S_S256x100000 (id (constant S_ .f32 0xFF800000#32)))) (constant S_ .f32 0xFF800000#32) reducesTo_S256x100000_S256_d1 h_S_

/-- Each group's shift: its largest logit where that is finite, zero elsewhere. -/
def sh : FVec Ideal S256 .f32 :=
  select (cmpf .olt (Host.absf (mx a0 a1 a2 a3 a4 a5)) (broadcastInDim S256 ![] bcast_S_S256 (constant S_ .f32 0x7F800000#32))) (mx a0 a1 a2 a3 a4 a5) (broadcastInDim S256 ![] bcast_S_S256 (id (constant S_ .f32 0x00000000#32)))

/-- The group numbers as one column. -/
def col : IVec S100000x1 32 := broadcastInDim S100000x1 ![0] bcast_S100000_S100000x1_0 a1

/-- The group numbers as one column, a negative one counted from the end. -/
def wcol : IVec S100000x1 32 :=
  broadcastInDim S100000x1 ![0] bcast_S100000_S100000x1_0 (select (cmpi .slt a1 (broadcastInDim S100000 ![] bcast_S_S100000 (constantI S_ 32 0#32))) (addi a1 (broadcastInDim S100000 ![] bcast_S_S100000 (constantI S_ 32 256#32))) a1)

/-- The exponentials of the shifted logits. -/
def ex : FVec Ideal S100000 .f32 :=
  Host.exp (subf (lg a0 a2 a3 a4 a5) (Host.gather gather_S256_S100000x1_S100000_n_0_n_n_0_1_1 (sh a0 a1 a2 a3 a4 a5) (wcol a1)))

/-- Each group's sum of exponentials. -/
def dn : FVec Ideal S256 .f32 :=
  Host.scatterAdd scatter_S256_S100000x1_S100000_n_0_0_1 (broadcastInDim S256 ![] bcast_S_S256 (constant S_ .f32 0x00000000#32)) (col a1) (ex a0 a1 a2 a3 a4 a5)

/-- The rows times their softmax weights. -/
def rw_ : FVec Ideal S100000x256 .f32 :=
  mulf a0 (broadcastInDim S100000x256 ![0, 1] bcast_S100000x1_S100000x256_0_1 (broadcastInDim S100000x1 ![0] bcast_S100000_S100000x1_0 (Host.divf (ex a0 a1 a2 a3 a4 a5) (Host.gather gather_S256_S100000x1_S100000_n_0_n_n_0_1_1 (dn a0 a1 a2 a3 a4 a5) (wcol a1)))))

/-- The pooled features. -/
def out : FVec Ideal S256x256 .f32 :=
  Host.scatterAdd scatter_S256x256_S100000x1_S100000x256_1_0_0_1 (broadcastInDim S256x256 ![] bcast_S_S256x256 (constant S_ .f32 0x00000000#32)) (col a1) (rw_ a0 a1 a2 a3 a4 a5)

/-- A row's logit: the gate's, plus the output bias. -/
theorem lg_at (i : Fin 100000) :
    lg a0 a2 a3 a4 a5 (ix1 i)
      = logit (fun i d => a0 (ix2 i d)) (fun d k => a2 (ix2 d k)) (fun k => a3 (ix1 k)) (fun k => a4 (ix2 k 0)) i + a5 (ix1 0) := by
  refine (column_at _ shapeCasts_S100000x1_S100000 i).trans ?_
  pointwise
  unfold logit
  exact congrArg (· + a5 (ix1 0)) (Finset.sum_congr rfl fun _ _ => mul_comm _ _)

/-- A group's shift is a real number. -/
theorem sh_real (g : Fin 256) : ∃ r : ℝ, sh a0 a1 a2 a3 a4 a5 (ix1 g) = (r : EReal) :=
  finite_part_real (mx a0 a1 a2 a3 a4 a5) g

/-- The column of group numbers at a row. -/
theorem col_at (i : Fin 100000) : col a1 (ix2 i 0) = a1 (ix1 i) := by
  pointwise [col]

/-- The wrapped column at a row that is in a group is the group's number. -/
theorem wcol_at (i : Fin 100000) (g : Fin 256) (hg : (a1 (ix1 i)).toInt = (g.val : ℤ)) : wcol a1 (ix2 i 0) = BitVec.ofNat 32 g.val := by
  have e : wcol a1 (ix2 i 0) = Scalar.select (IntOp.cmpi .slt (a1 (ix1 i)) 0#32) (IntOp.addi (a1 (ix1 i)) 256#32) (a1 (ix1 i)) := by
    pointwise [wcol]
  have hg' := g.isLt
  have hw : a1 (ix1 i) = BitVec.ofNat 32 g.val := by
    apply BitVec.eq_of_toInt_eq
    rw [hg, StableHlo.Predicate.toInt_ofNat_small _ (by omega)]
  rw [e, Routing.wrap_of_lt _ _ (by rw [hw, BitVec.toNat_ofNat]; omega)]
  exact hw

/-- The exponential at a row of group `g`: of its logit less the group's shift. -/
theorem ex_at (i : Fin 100000) (g : Fin 256) (hg : (a1 (ix1 i)).toInt = (g.val : ℤ)) :
    ex a0 a1 a2 a3 a4 a5 (ix1 i) = Ideal.exp (lg a0 a2 a3 a4 a5 (ix1 i) - sh a0 a1 a2 a3 a4 a5 (ix1 g)) := by
  unfold ex
  generalize lg a0 a2 a3 a4 a5 = v
  generalize sh a0 a1 a2 a3 a4 a5 = w
  have e : Host.gather gather_S256_S100000x1_S100000_n_0_n_n_0_1_1 w (wcol a1) (ix1 i) = w (ix1 g) :=
    Routing.gather_take1 _ rfl rfl rfl rfl w (wcol a1) i g (wcol_at a1 i g hg) (by decide)
  show Ideal.exp (v (ix1 i) - Host.gather gather_S256_S100000x1_S100000_n_0_n_n_0_1_1 w (wcol a1) (ix1 i)) = _
  rw [e]

/-- A group's sum of exponentials. -/
theorem dn_at (g : Fin 256) :
    dn a0 a1 a2 a3 a4 a5 (ix1 g)
      = ∑ i : Fin 100000 with (a1 (ix1 i)).toInt = (g.val : ℤ), Ideal.exp (lg a0 a2 a3 a4 a5 (ix1 i) - sh a0 a1 a2 a3 a4 a5 (ix1 g)) := by
  have hz : broadcastInDim S256 ![] bcast_S_S256 (constant (F := Ideal) S_ .f32 0x00000000#32) (ix1 g) = 0 := by
    pointwise
  unfold dn
  rw [segsum1, hz, zero_add]
  simp only [col_at]
  exact Finset.sum_congr rfl fun i hi => ex_at a0 a1 a2 a3 a4 a5 i g (Finset.mem_filter.1 hi).2

/-- A weighted row at a feature. -/
theorem rw_at (i : Fin 100000) (g l : Fin 256) (hg : (a1 (ix1 i)).toInt = (g.val : ℤ)) :
    rw_ a0 a1 a2 a3 a4 a5 (ix2 i l)
      = a0 (ix2 i l) * Ideal.div (ex a0 a1 a2 a3 a4 a5 (ix1 i)) (dn a0 a1 a2 a3 a4 a5 (ix1 g)) := by
  unfold rw_
  generalize ex a0 a1 a2 a3 a4 a5 = v
  generalize dn a0 a1 a2 a3 a4 a5 = w
  have e : Host.gather gather_S256_S100000x1_S100000_n_0_n_n_0_1_1 w (wcol a1) (ix1 i) = w (ix1 g) :=
    Routing.gather_take1 _ rfl rfl rfl rfl w (wcol a1) i g (wcol_at a1 i g hg) (by decide)
  generalize Host.gather gather_S256_S100000x1_S100000_n_0_n_n_0_1_1 w (wcol a1) = u at e
  rw [← e]
  pointwise

/-- The pooled features at a group and a feature. -/
theorem out_at (g l : Fin 256) :
    out a0 a1 a2 a3 a4 a5 (ix2 g l)
      = ∑ i : Fin 100000 with (a1 (ix1 i)).toInt = (g.val : ℤ), a0 (ix2 i l) *
          Ideal.div (Ideal.exp (lg a0 a2 a3 a4 a5 (ix1 i) - sh a0 a1 a2 a3 a4 a5 (ix1 g)))
            (∑ j : Fin 100000 with (a1 (ix1 j)).toInt = (g.val : ℤ), Ideal.exp (lg a0 a2 a3 a4 a5 (ix1 j) - sh a0 a1 a2 a3 a4 a5 (ix1 g))) := by
  have hz : broadcastInDim S256x256 ![] bcast_S_S256x256 (constant (F := Ideal) S_ .f32 0x00000000#32) (ix2 g l) = 0 := by
    pointwise
  unfold out
  rw [segsum2, hz, zero_add]
  simp only [col_at]
  refine Finset.sum_congr rfl fun i hi => ?_
  have hg := (Finset.mem_filter.1 hi).2
  rw [rw_at a0 a1 a2 a3 a4 a5 i g l hg, ex_at a0 a1 a2 a3 a4 a5 i g hg, dn_at]

end

/-- The run's result is the pooled features of the arguments. -/
theorem res_eq (m : (ℓ : Loc nD τ sig) → Buf (Elt Ideal) ℓ) (c : Dev nD) :
    Cert.ReferenceIdeal.Value.res_out0 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  show Cert.ReferenceIdeal.Value.res_main_v48 m c = _
  unfold Cert.ReferenceIdeal.Value.res_main_v48 out rw_ dn ex sh mx lg col wcol
  rfl

end Cert.Pool.Refn

end
-- ==== Proof.Finite.lean ====
/-
  What the precondition says: the output weights and the output bias of the gate are real numbers.
-/
module

public import proofs.«01_k».proof.Defs
public import proofs.«01_k».proof.Proof.Gen.Pre_finite_gate
public import proofs.«01_k».proof.Proof.Pool
public import Idealize.ShloMosaic.Lib.ReduceAll
public import Idealize.ShloMosaic.Lib.Pointwise
public import Idealize.ShloMosaic.Lib.ValueIdx
public import Idealize.ShloMosaic.Lib.IdealHost

@[expose] public section

set_option maxRecDepth 16384

noncomputable section

namespace Cert.Pool.Fin

open Cert.Pre_finite_gate Cert.Pre_finite_gate.Gen Idealize.ShloMosaic Idealize.SL.Sem

/-- A comparison of a magnitude with infinity that holds says the element is a real number. -/
theorem real_of_test {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : ∃ r : ℝ, x i = (r : EReal) := by
  have ht : Ideal.ofBits .f32 0x7F800000#32 = ⊤ := by simp [Ideal.ofBits, Ideal.ieee]
  have e' : BitVec.ofBool (decide (max (x i) (-(x i)) < Ideal.ofBits .f32 0x7F800000#32)) = 1#1 := e
  rw [ht] at e'
  refine real_of_abs_lt ?_
  by_contra hn
  rw [decide_eq_false hn] at e'
  exact absurd e' (by decide)

/-- The precondition makes every output weight and the output bias a real number. -/
theorem finite (a0 : FVec Ideal S100000x256 .f32) (a1 : IVec S100000 32) (a2 : FVec Ideal S256x128 .f32) (a3 : FVec Ideal S128 .f32)
    (a4 : FVec Ideal S128x1 .f32) (a5 : FVec Ideal S1 .f32) (h : fn a0 a1 a2 a3 a4 a5 = fun _ => 1#1) :
    (∀ i, ∃ r : ℝ, a4 i = (r : EReal)) ∧ ∀ i, ∃ r : ℝ, a5 i = (r : EReal) := by
  have hu : Subsingleton S_.Idx := ⟨fun a b => funext fun k => k.elim0⟩
  obtain ⟨h4, h5⟩ := IntOp.andi_eq_one.1 (congrFun h ix0)
  exact ⟨fun i => real_of_test a4 _ i (Host.reduce_andi_all _ _ _ _ ix0 h4 i),
    fun i => real_of_test a5 _ i (Host.reduce_andi_all _ _ _ _ ix0 h5 i)⟩

end Cert.Pool.Fin

end
-- ==== Proof.Equal.lean ====
/-
  The equation: under the precondition the kernel's result array is the reference's function of the same argument arrays.
-/
module

public import proofs.«01_k».proof.Proof.Fold
public import proofs.«01_k».proof.Proof.Refn
public import proofs.«01_k».proof.Proof.Finite

@[expose] public section

set_option maxRecDepth 16384

noncomputable section

namespace Cert.Pool

open Cert.KernelIdeal Idealize.ShloMosaic Idealize.ShloMosaic.TcCoe Idealize.SL.Sem

/-- The kernel's result is the reference's, for output weights and an output bias that are real numbers. -/
theorem equal (m : (ℓ : Loc nD τ sig) → Buf (Elt Ideal) ℓ) (c : Dev nD)
    (h4 : ∀ i, ∃ r : ℝ, (m ((c.tc : Thread nD τ).loc main_arg4) : FVec Ideal S128x1 .f32) i = (r : EReal))
    (h5 : ∀ i, ∃ r : ℝ, (m ((c.tc : Thread nD τ).loc main_arg5) : FVec Ideal S1 .f32) i = (r : EReal)) :
    (Cert.KernelIdeal.Value.G5 m c : FVec Ideal S256x256 .f32)
      = Refn.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine funext fun i => ?_
  obtain ⟨g, l, rfl⟩ : ∃ g l : Fin 256, i = ix2 g l := ⟨i 0, i 1, (ix2_eta i).symm⟩
  have hw : ∀ k, ∃ r : ℝ, Kern.w2 m c k = (r : EReal) := fun k => h4 _
  refine (Kern.result_at m c g l).trans ?_
  refine Eq.trans ?_ (Refn.out_at _ _ _ _ _ _ g l).symm
  simp only [Refn.lg_at]
  exact pooled_eq (fun i => Kern.seg m c i = (g.val : ℤ))
    (fun i => logit (Kern.feat m c) (Kern.w1 m c) (Kern.bias m c) (Kern.w2 m c) i) (fun i => Kern.feat m c i l)
    (bound (Kern.w2 m c)) _ _ (fun i => logit_real _ _ _ _ hw i) (bound_real _ hw) (h5 _) (Refn.sh_real _ _ _ _ _ _ g)

end Cert.Pool

end
-- ==== Proof.lean ====
/-
  The proof of `Cert.Claim` (Defs.lean). The frames come from the generated frame theorems and from the reference's run; the algebraic
  claim puts the kernel's run beside the reference's and closes with the equation of Proof/Equal.lean.
-/
module

public import proofs.«01_k».proof.Defs
public import proofs.«01_k».proof.Proof.Gen.Kernel.Frame
public import proofs.«01_k».proof.Proof.Gen.KernelIdeal.Value
public import proofs.«01_k».proof.Proof.Gen.Pre_finite_gate
public import proofs.«01_k».proof.Proof.Gen.ReferenceIdeal.Run
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates with its arguments unchanged and no counter pending, from any memory. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from a memory that meets the precondition. -/
theorem reference_frame_pre : Cert.quiescent_ReferenceIdeal_pre_finite_gate := fun m ρ _ => reference_frame m ρ trivial

/-- From argument arrays that agree and meet the precondition, the kernel and the reference leave equal results. -/
theorem pooled_equal : Cert.algebraic_KernelIdeal_ReferenceIdeal_pre_finite_gate := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  have hf := Cert.Pool.Fin.finite _ _ _ _ _ _ (hpre c)
  obtain ⟨e0, e1, e2, e3, e4, e5⟩ := hagree c
  refine (h c).1.trans ((Cert.Pool.Refn.res_eq m' c).trans ?_)
  rw [e0, e1, e2, e3, e4, e5]
  exact (Cert.Pool.equal m c hf.1 hf.2).symm

/-- Every claim of the certificate. -/
theorem claim : Cert.Claim := ⟨Cert.Kernel.Gen.facts, Cert.KernelIdeal.Gen.facts, Cert.ReferenceIdeal.Gen.facts, Cert.Pre_finite_gate.Gen.facts,
  fun m ρ _ => Cert.Kernel.Gen.frame m ρ, fun m ρ _ => Cert.KernelIdeal.Gen.frame m ρ, fun m ρ _ => Cert.KernelIdeal.Gen.frame m ρ,
  reference_frame, reference_frame_pre, (trivial : preserves_Kernel_KernelIdeal), pooled_equal⟩

end Cert.Proof

end
